-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x256x6144 : Shape := ⟨4, ![8, 1, 256, 6144]⟩
abbrev S8x1x256x96 : Shape := ⟨4, ![8, 1, 256, 96]⟩
abbrev S1x256x6144 : Shape := ⟨3, ![1, 256, 6144]⟩
abbrev S1x256x96 : Shape := ⟨3, ![1, 256, 96]⟩
abbrev S8x1x32x6144 : Shape := ⟨4, ![8, 1, 32, 6144]⟩
abbrev S8x1x32x96 : Shape := ⟨4, ![8, 1, 32, 96]⟩
abbrev S1x32x6144 : Shape := ⟨3, ![1, 32, 6144]⟩
abbrev S1x32x96 : Shape := ⟨3, ![1, 32, 96]⟩
abbrev S32x128 : Shape := ⟨2, ![32, 128]⟩
abbrev S1x1x32x128 : Shape := ⟨4, ![1, 1, 32, 128]⟩
abbrev S1x1x32x1 : Shape := ⟨4, ![1, 1, 32, 1]⟩
abbrev S32x1 : Shape := ⟨2, ![32, 1]⟩
abbrev S32 : Shape := ⟨1, ![32]⟩
abbrev S1x32x1 : Shape := ⟨3, ![1, 32, 1]⟩
abbrev S1x32x128 : Shape := ⟨3, ![1, 32, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x1x256x6144, .i8⟩
  | .hbm, ⟨1, _⟩ => ⟨S8x1x256x96, .f32⟩
  | .hbm, ⟨2, _⟩ => ⟨S1x256x6144, .i8⟩
  | .hbm, ⟨3, _⟩ => ⟨S1x256x96, .f32⟩
  | .local _ .vmem, ⟨0, _⟩ => ⟨S8x1x32x6144, .i8⟩
  | .local _ .vmem, ⟨1, _⟩ => ⟨S8x1x32x6144, .i8⟩
  | .local _ .vmem, ⟨2, _⟩ => ⟨S8x1x32x96, .f32⟩
  | .local _ .vmem, ⟨3, _⟩ => ⟨S8x1x32x96, .f32⟩
  | .local _ .vmem, ⟨4, _⟩ => ⟨S1x32x6144, .i8⟩
  | .local _ .vmem, ⟨5, _⟩ => ⟨S1x32x6144, .i8⟩
  | .local _ .vmem, ⟨6, _⟩ => ⟨S1x32x96, .f32⟩
  | .local _ .vmem, ⟨7, _⟩ => ⟨S1x32x96, .f32⟩
  | _, _ => ⟨S8x1x256x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1x32x6144 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x32x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x1x256x6144 : Shape := ⟨4, ![8, 1, 256, 6144]⟩
abbrev S8x1x256x96 : Shape := ⟨4, ![8, 1, 256, 96]⟩
abbrev S8x1x256x96x64 : Shape := ⟨5, ![8, 1, 256, 96, 64]⟩
abbrev S_ : Shape := ⟨0, ![]⟩
abbrev S8x1x256x96x1 : Shape := ⟨5, ![8, 1, 256, 96, 1]⟩
abbrev S1x256x96x64 : Shape := ⟨4, ![1, 256, 96, 64]⟩
abbrev S1x256x96 : Shape := ⟨3, ![1, 256, 96]⟩
abbrev S1x256x96x1 : Shape := ⟨4, ![1, 256, 96, 1]⟩
abbrev S1x256x6144 : Shape := ⟨3, ![1, 256, 6144]⟩

abbrev nBuf : Space → Nat
  | .hbm => 83
  | .vmem => 0
  | .smem => 0
  | _ => 0

abbrev bufTy : (tb : Table) → Fin (tcTables nBuf tb) → BufTy
  | .hbm, ⟨0, _⟩ => ⟨S8x1x256x6144, .i8⟩
  | .hbm, ⟨1, _⟩ => ⟨S8x1x256x96, .f32⟩
  | .hbm, ⟨2, _⟩ => ⟨S8x1x256x6144, .i8⟩
  | .hbm, ⟨3, _⟩ => ⟨S8x1x256x6144, .i32⟩
  | .hbm, ⟨4, _⟩ => ⟨S8x1x256x96x64, .i32⟩
  | .hbm, ⟨5, _⟩ => ⟨S_, .i32⟩
  | .hbm, ⟨6, _⟩ => ⟨S8x1x256x96x64, .i32⟩
  | .hbm, ⟨7, _⟩ => ⟨S8x1x256x96x64, .i32⟩
  | .hbm, ⟨8, _⟩ => ⟨S8x1x256x96x64, .i8⟩
  | .hbm, ⟨9, _⟩ => ⟨S8x1x256x96x64, .i32⟩
  | .hbm, ⟨10, _⟩ => ⟨S_, .i32⟩
  | .hbm, ⟨11, _⟩ => ⟨S8x1x256x96x64, .i32⟩
  | .hbm, ⟨12, _⟩ => ⟨S8x1x256x96x64, .i32⟩
  | .hbm, ⟨13, _⟩ => ⟨S_, .i32⟩
  | .hbm, ⟨14, _⟩ => ⟨S8x1x256x96x64, .i32⟩
  | .hbm, ⟨15, _⟩ => ⟨S8x1x256x96x64, .i32⟩
  | .hbm, ⟨16, _⟩ => ⟨S8x1x256x96x1, .f32⟩
  | .hbm, ⟨17, _⟩ => ⟨S8x1x256x96x64, .f32⟩
  | .hbm, ⟨18, _⟩ => ⟨S8x1x256x96x64, .f32⟩
  | .hbm, ⟨19, _⟩ => ⟨S8x1x256x96x64, .f32⟩
  | .hbm, ⟨20, _⟩ => ⟨S_, .f32⟩
  | .hbm, ⟨21, _⟩ => ⟨S1x256x96x64, .f32⟩
  | .hbm, ⟨22, _⟩ => ⟨S8x1x256x96x64, .f32⟩
  | .hbm, ⟨23, _⟩ => ⟨S8x1x256x96x64, .f32⟩
  | .hbm, ⟨24, _⟩ => ⟨S8x1x256x96x64, .f32⟩
  | .hbm, ⟨25, _⟩ => ⟨S_, .f32⟩
  | .hbm, ⟨26, _⟩ => ⟨S1x256x96x64, .f32⟩
  | .hbm, ⟨27, _⟩ => ⟨S1x256x96x64, .f32⟩
  | .hbm, ⟨28, _⟩ => ⟨S_, .f32⟩
  | .hbm, ⟨29, _⟩ => ⟨S1x256x96, .f32⟩
  | .hbm, ⟨30, _⟩ => ⟨S1x256x96x64, .f32⟩
  | .hbm, ⟨31, _⟩ => ⟨S_, .f32⟩
  | .hbm, ⟨32, _⟩ => ⟨S1x256x96, .f32⟩
  | .hbm, ⟨33, _⟩ => ⟨S1x256x96, .f32⟩
  | .hbm, ⟨34, _⟩ => ⟨S_, .f32⟩
  | .hbm, ⟨35, _⟩ => ⟨S1x256x96, .f32⟩
  | .hbm, ⟨36, _⟩ => ⟨S1x256x96, .i1⟩
  | .hbm, ⟨37, _⟩ => ⟨S_, .f32⟩
  | .hbm, ⟨38, _⟩ => ⟨S1x256x96, .f32⟩
  | .hbm, ⟨39, _⟩ => ⟨S1x256x96, .f32⟩
  | .hbm, ⟨40, _⟩ => ⟨S_, .f32⟩
  | .hbm, ⟨41, _⟩ => ⟨S1x256x96, .f32⟩
  | .hbm, ⟨42, _⟩ => ⟨S1x256x96, .f32⟩
  | .hbm, ⟨43, _⟩ => ⟨S1x256x96x1, .f32⟩
  | .hbm, ⟨44, _⟩ => ⟨S1x256x96x64, .f32⟩
  | .hbm, ⟨45, _⟩ => ⟨S1x256x96x64, .f32⟩
  | .hbm, ⟨46, _⟩ => ⟨S1x256x96x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x256x96x64, .f32⟩
  | .hbm, ⟨51, _⟩ => ⟨S1x256x96x64, .f32⟩
  | .hbm, ⟨52, _⟩ => ⟨S_, .f32⟩
  | .hbm, ⟨53, _⟩ => ⟨S1x256x96x64, .f32⟩
  | .hbm, ⟨54, _⟩ => ⟨S1x256x96x64, .f32⟩
  | .hbm, ⟨55, _⟩ => ⟨S1x256x96x64, .i32⟩
  | .hbm, ⟨56, _⟩ => ⟨S1x256x96x64, .i8⟩
  | .hbm, ⟨57, _⟩ => ⟨S1x256x96x1, .f32⟩
  | .hbm, ⟨58, _⟩ => ⟨S1x256x96x64, .f32⟩
  | .hbm, ⟨59, _⟩ => ⟨S1x256x96x64, .f32⟩
  | .hbm, ⟨60, _⟩ => ⟨S1x256x96x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x256x96x64, .f32⟩
  | .hbm, ⟨65, _⟩ => ⟨S1x256x96x64, .f32⟩
  | .hbm, ⟨66, _⟩ => ⟨S_, .f32⟩
  | .hbm, ⟨67, _⟩ => ⟨S1x256x96x64, .f32⟩
  | .hbm, ⟨68, _⟩ => ⟨S1x256x96x64, .f32⟩
  | .hbm, ⟨69, _⟩ => ⟨S1x256x96x64, .i32⟩
  | .hbm, ⟨70, _⟩ => ⟨S1x256x96x64, .i8⟩
  | .hbm, ⟨71, _⟩ => ⟨S1x256x96x64, .i32⟩
  | .hbm, ⟨72, _⟩ => ⟨S1x256x96x64, .i32⟩
  | .hbm, ⟨73, _⟩ => ⟨S_, .i32⟩
  | .hbm, ⟨74, _⟩ => ⟨S1x256x96x64, .i32⟩
  | .hbm, ⟨75, _⟩ => ⟨S1x256x96x64, .i32⟩
  | .hbm, ⟨76, _⟩ => ⟨S_, .i32⟩
  | .hbm, ⟨77, _⟩ => ⟨S1x256x96x64, .i32⟩
  | .hbm, ⟨78, _⟩ => ⟨S1x256x96x64, .i32⟩
  | .hbm, ⟨79, _⟩ => ⟨S1x256x96x64, .i32⟩
  | .hbm, ⟨80, _⟩ => ⟨S1x256x96x64, .i8⟩
  | .hbm, ⟨81, _⟩ => ⟨S1x256x96x64, .i8⟩
  | .hbm, ⟨82, _⟩ => ⟨S1x256x6144, .i8⟩
  | _, _ => ⟨S8x1x256x6144, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_cst_9 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_cst_11 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== Proof.Tile.lean ====
/-
  WHAT ONE COLUMN TILE COMPUTES. The kernel's body is 48 copies of one piece of code, one per tile of 128 packed columns.
  This module writes that piece of code down once, for a tile `k`, and shows that the two blocks the body leaves
  (`out0_2`, the packed codes; `out0_3`, the scales) are the results of the 48 tiles, side by side.
-/
module

public import proofs.«01_k».proof.Proof.Gen.KernelIdeal.Skeleton
public import Idealize.ShloMosaic.Lib.Pipeline.FrameBody

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F]

/-- Lane `l` of a tile belongs to the first of its two quantisation blocks when `l < 64`. -/
def first : IVec S32x128 1 :=
  cmpi .slt (iota .tc S32x128 32 [1] iota_S32x128_d1_w32) (broadcast S32x128 64#32)

/-- One source's packed bytes, widened without sign. -/
def wide (b : Vec F S1x1x32x128 .i8) : IVec S32x128 32 :=
  extui 32 (shapeCast S32x128 b shapeCasts_S1x1x32x128_S32x128 : IVec S32x128 8) natLt_8_32

/-- The low codes of one source's packed bytes. -/
def lo (b : Vec F S1x1x32x128 .i8) : FVec F S32x128 .f32 :=
  sitofp .f32 (shrsi (shli (wide b) (broadcast S32x128 28#32)) (broadcast S32x128 28#32))

/-- The high codes of one source's packed bytes. -/
def hi (b : Vec F S1x1x32x128 .i8) : FVec F S32x128 .f32 :=
  sitofp .f32 (shrsi (shli (wide b) (broadcast S32x128 24#32)) (broadcast S32x128 28#32))

/-- A column of row values laid along the lanes. -/
def spread (v : FVec F S32x1 .f32) : FVec F S32x128 .f32 :=
  broadcastTo S32x128 (shapeCast S32x1 v shapeCasts_S32x1_S32x1) broadcasts_S32x1_S32x128

/-- One source's scales laid along the lanes, each lane taking its own quantisation block's. -/
def sc (p q : Vec F S1x1x32x1 .f32) : FVec F S32x128 .f32 :=
  select first (spread (shapeCast S32x1 p shapeCasts_S1x1x32x1_S32x1)) (spread (shapeCast S32x1 q shapeCasts_S1x1x32x1_S32x1))

/-- The sum over the eight sources of codes times scales. `f` is `lo` or `hi`. -/
def acc (f : Vec F S1x1x32x128 .i8 → FVec F S32x128 .f32) (B : Fin 8 → Vec F S1x1x32x128 .i8)
    (P Q : Fin 8 → Vec F S1x1x32x1 .f32) : FVec F S32x128 .f32 :=
  addf (addf (addf (addf (addf (addf (addf (addf (broadcast S32x128 (Scalar.ofBits .f32 0x00000000#32))
    (mulf (f (B 0)) (sc (P 0) (Q 0)))) (mulf (f (B 1)) (sc (P 1) (Q 1)))) (mulf (f (B 2)) (sc (P 2) (Q 2))))
    (mulf (f (B 3)) (sc (P 3) (Q 3)))) (mulf (f (B 4)) (sc (P 4) (Q 4)))) (mulf (f (B 5)) (sc (P 5) (Q 5))))
    (mulf (f (B 6)) (sc (P 6) (Q 6)))) (mulf (f (B 7)) (sc (P 7) (Q 7)))

/-- The row maxima of a vector. -/
def rowMax (v : FVec F S32x128 .f32) : FVec F S32x1 .f32 :=
  shapeCast S32x1 (multiReduction .maximumf [1] S32 v 0xFF800000#32 reduces_S32x128_S32 (.inl rfl) rfl) shapeCasts_S32_S32x1

/-- The larger of the two sums' magnitudes. -/
def mag (x y : FVec F S32x128 .f32) : FVec F S32x128 .f32 := maximumf (absf x) (absf y)

/-- The zero vector of a tile. -/
def zero : FVec F S32x128 .f32 := broadcast S32x128 (Scalar.ofBits .f32 0x00000000#32)

/-- The scale of a quantisation block from its largest magnitude: a seventh of it, or one where it is zero. -/
def scale (a : FVec F S32x1 .f32) : FVec F S32x1 .f32 :=
  select (cmpf .oeq a (broadcast S32x1 (Scalar.ofBits .f32 0x00000000#32))) (broadcast S32x1 (Scalar.ofBits .f32 0x3F800000#32))
    (divf a (broadcast S32x1 (Scalar.ofBits .f32 0x40E00000#32)))

/-- The scale of the tile's first quantisation block. -/
def scale0 (x y : FVec F S32x128 .f32) : FVec F S32x1 .f32 := scale (rowMax (select first (mag x y) zero))

/-- The scale of the tile's second quantisation block. -/
def scale1 (x y : FVec F S32x128 .f32) : FVec F S32x1 .f32 := scale (rowMax (select first zero (mag x y)))

/-- The four-bit codes of `x` at the scales `s`, in 32-bit words. -/
def code (x s : FVec F S32x128 .f32) : IVec S32x128 32 :=
  fptosi 32 (minimumf (broadcast S32x128 (Scalar.ofBits .f32 0x40E00000#32))
    (maximumf (broadcast S32x128 (Scalar.ofBits .f32 0xC0E00000#32)) (roundeven (divf x s))))

/-- Two codes in one byte: the low code in the low four bits, the high code in the high four. -/
def pack (c h : IVec S32x128 32) : IVec S1x32x128 8 :=
  shapeCast S1x32x128 (trunci 8 (ori (andi c (broadcast S32x128 15#32))
    (shli (andi h (broadcast S32x128 15#32)) (broadcast S32x128 4#32))) natLt_8_32) shapeCasts_S32x128_S1x32x128

/-- The packed codes of a tile whose two sums are `x` (low) and `y` (high). -/
def bytes (x y : FVec F S32x128 .f32) : IVec S1x32x128 8 :=
  pack (code x (select first (spread (scale0 x y)) (spread (scale1 x y))))
    (code y (select first (spread (scale0 x y)) (spread (scale1 x y))))

/-! ## The loads and stores of tile `k` -/

/-- Tile `k`'s packed bytes of source `s`. -/
def ldB (x0 : Vec F S8x1x32x6144 .i8) (k : Fin 48) (s : Fin 8) : Vec F S1x1x32x128 .i8 :=
  View.ld x0 (Rect.unit (s := S8x1x32x6144) ![s.val, 0, 0, 128 * k.val] S1x1x32x128.size (by
    intro a; fin_cases a <;> simp <;> omega))

/-- The scales of source `s` in block column `j`. -/
def ldS (x1 : Vec F S8x1x32x96 .f32) (j : Fin 96) (s : Fin 8) : Vec F S1x1x32x1 .f32 :=
  View.ld x1 (Rect.unit (s := S8x1x32x96) ![s.val, 0, 0, j.val] S1x1x32x1.size (by
    intro a; fin_cases a <;> simp <;> omega))

/-- Block column `2 k + p`. -/
def col (k : Fin 48) (p : Fin 2) : Fin 96 := ⟨2 * k.val + p.val, by omega⟩

/-- Tile `k`'s weighted sum of the low codes. -/
def sumLo (x0 : Vec F S8x1x32x6144 .i8) (x1 : Vec F S8x1x32x96 .f32) (k : Fin 48) : FVec F S32x128 .f32 :=
  acc lo (ldB x0 k) (ldS x1 (col k 0)) (ldS x1 (col k 1))

/-- Tile `k`'s weighted sum of the high codes. -/
def sumHi (x0 : Vec F S8x1x32x6144 .i8) (x1 : Vec F S8x1x32x96 .f32) (k : Fin 48) : FVec F S32x128 .f32 :=
  acc hi (ldB x0 k) (ldS x1 (col k 0)) (ldS x1 (col k 1))

/-- Where tile `k`'s packed codes go in the block. -/
def rectB (k : Fin 48) : Rect S1x32x6144 :=
  Rect.unit (s := S1x32x6144) ![0, 0, 128 * k.val] S1x32x128.size (by intro a; fin_cases a <;> simp <;> omega)

/-- Where the scales of block column `j` go in the block. -/
def rectS (j : Fin 96) : Rect S1x32x96 :=
  Rect.unit (s := S1x32x96) ![0, 0, j.val] S1x32x1.size (by intro a; fin_cases a <;> simp <;> omega)

end Cert.KernelIdeal.Tile

end
-- ==== Proof.Pieces.lean ====
/-
  THE TWO BLOCKS THE BODY LEAVES, TILE BY TILE. The unrolled body's stores are the results of the one tile computation
  (`Proof/Tile.lean`) at the 48 tiles.
-/
module

public import proofs.«01_k».proof.Proof.Gen.KernelIdeal.Frame
public import proofs.«01_k».proof.Proof.Tile

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F]

/-- The block of packed codes the body leaves is the 48 tiles' codes, tile `k` in columns `128 k` to `128 k + 127`. -/
theorem out0_2_eq (x0 : Vec F S8x1x32x6144 .i8) (x1 : Vec F S8x1x32x96 .f32) :
    out0_2 x0 x1 = View.canon ((List.finRange 48).reverse.map fun k =>
      ⟨rectB k, bytes (sumLo x0 x1 k) (sumHi x0 x1 k)⟩) := rfl

/-- The block of scales the body leaves: two columns for each tile. -/
theorem out0_3_eq (x0 : Vec F S8x1x32x6144 .i8) (x1 : Vec F S8x1x32x96 .f32) :
    out0_3 x0 x1 = View.canon ((List.finRange 48).reverse.flatMap fun k =>
      [⟨rectS (col k 1), shapeCast S1x32x1 (scale1 (sumLo x0 x1 k) (sumHi x0 x1 k)) shapeCasts_S32x1_S1x32x1⟩,
       ⟨rectS (col k 0), shapeCast S1x32x1 (scale0 (sumLo x0 x1 k) (sumHi x0 x1 k)) shapeCasts_S32x1_S1x32x1⟩]) := rfl

end Cert.KernelIdeal.Tile

end
-- ==== Proof.Row.lean ====
/-
  THE MATHEMATICS OF ONE ROW. Eight sources each hold, for a row, 6144 bytes of two signed four-bit codes and 96 block
  scales (a block is 64 consecutive bytes, low and high codes together). The codes are scaled and added over the sources,
  each block's largest magnitude gives a new scale, and the sums are rounded to codes again and packed. Both the kernel and
  the reference are shown to compute `byteAt` and `scaleAt`. The facts about words that the two sides' different
  spellings need are proved here too.
-/
module

public import Idealize.ShloMosaic.Lib.Pointwise

@[expose] public section

set_option maxRecDepth 16384

noncomputable section

namespace Cert.Row

open Idealize.ShloMosaic

/-! ## The definitions -/

/-- The low code of a packed byte: its low four bits, read signed. -/
def low (b : BitVec 8) : BitVec 32 := (b.signExtend 32 <<< 28).sshiftRight 28

/-- The high code of a packed byte: its high four bits, read signed. -/
def high (b : BitVec 8) : BitVec 32 := (b.signExtend 32).sshiftRight 4

/-- The magnitude of an extended real. -/
def mag (x : EReal) : EReal := max x (-x)

/-- The sum over the sources of the codes `f` picks from the bytes `b`, times the scales `s`. -/
def wsum (f : BitVec 8 → BitVec 32) (b : Fin 8 → BitVec 8) (s : Fin 8 → EReal) : EReal :=
  ∑ i, (FloatOps.sitofp (F := Ideal) .f32 (f (b i)) : EReal) * s i

/-- The largest magnitude among the 64 low sums `x` and the 64 high sums `y` of a block. -/
def amax (x y : Fin 64 → EReal) : EReal := Finset.univ.sup fun l => max (mag (x l)) (mag (y l))

/-- A block's new scale: a seventh of its largest magnitude `a`, or one where that is zero. -/
def scale (a : EReal) : EReal := if a = 0 then 1 else Ideal.div a (Ideal.ofBits .f32 0x40E00000#32)

/-- The code of a sum `x` at the scale `s`: the quotient rounded to the nearest integer, ties to even, kept in [-7, 7]. -/
def code (x s : EReal) : BitVec 32 :=
  FloatOps.fptosi (F := Ideal) (φ := .f32) 32 (min (Ideal.ofBits .f32 0x40E00000#32) (max (Ideal.ofBits .f32 0xC0E00000#32)
    (Ideal.liftRound Ideal.roundHalfEven (Ideal.div x s))))

/-- A low code and a high code in one byte. -/
def pack (c h : BitVec 32) : BitVec 8 := BitVec.setWidth 8 ((c &&& 15#32) ||| ((h &&& 15#32) <<< 4))

/-- The sum over the sources at byte column `c` of a row with bytes `A` and block scales `S`. -/
def sumAt (f : BitVec 8 → BitVec 32) (A : Fin 8 → Fin 6144 → BitVec 8) (S : Fin 8 → Fin 96 → EReal) (c : Fin 6144) : EReal :=
  wsum f (fun s => A s c) (fun s => S s ⟨c.val / 64, by omega⟩)

/-- The new scale of block `j` of the row. -/
def scaleAt (A : Fin 8 → Fin 6144 → BitVec 8) (S : Fin 8 → Fin 96 → EReal) (j : Fin 96) : EReal :=
  scale (amax (fun l => sumAt low A S ⟨j.val * 64 + l.val, by omega⟩) (fun l => sumAt high A S ⟨j.val * 64 + l.val, by omega⟩))

/-- The new packed byte at column `c` of the row. -/
def byteAt (A : Fin 8 → Fin 6144 → BitVec 8) (S : Fin 8 → Fin 96 → EReal) (c : Fin 6144) : BitVec 8 :=
  pack (code (sumAt low A S c) (scaleAt A S ⟨c.val / 64, by omega⟩)) (code (sumAt high A S c) (scaleAt A S ⟨c.val / 64, by omega⟩))

/-! ## Facts about words -/

/-- A shift to the left by less than the width is the plain shift of words, on any unit. -/
theorem shli_eq (u : ArithUnit) (x : BitVec 32) (n : Nat) (hn : n < 32) : IntOp.shli u x (BitVec.ofNat 32 n) = x <<< n := by
  have h : (BitVec.ofNat 32 n).toNat = n := by simp; omega
  simp only [IntOp.shli, h, if_pos hn, BitVec.shiftLeft_eq', h]

/-- A signed shift to the right by less than the width is the plain shift of words, on any unit. -/
theorem shrsi_eq (u : ArithUnit) (x : BitVec 32) (n : Nat) (hn : n < 32) : IntOp.shrsi u x (BitVec.ofNat 32 n) = x.sshiftRight n := by
  have h : (BitVec.ofNat 32 n).toNat = n := by simp; omega
  simp only [IntOp.shrsi, h, if_pos hn, BitVec.sshiftRight', h]

/-- The low code is the same from a byte widened without sign: the shift to the left drops the upper bits. -/
theorem low_of_unsigned : ∀ b : BitVec 8, (b.setWidth 32 <<< 28).sshiftRight 28 = low b := by decide +kernel

/-- The high code from a byte widened without sign, moved to the top of the word first. -/
theorem high_of_unsigned : ∀ b : BitVec 8, (b.setWidth 32 <<< 24).sshiftRight 28 = high b := by decide +kernel

/-- The low code by a shift within the byte: four to the left, cut to eight bits, and four to the right with sign. -/
theorem low_of_byte : ∀ b : BitVec 8, (((b.signExtend 32 <<< 4).setWidth 8).signExtend 32).sshiftRight 4 = low b := by
  decide +kernel

/-- Packing takes only the low eight bits of the two codes: narrowing them to a byte and widening again changes nothing, and
    the mask on the high code is not needed. -/
theorem pack_of_bytes (c h : BitVec 32) :
    BitVec.setWidth 8 ((((c.setWidth 8).signExtend 32) &&& 15#32) ||| (((h.setWidth 8).signExtend 32) <<< 4)) = pack c h := by
  ext i hi
  interval_cases i <;> simp [pack, BitVec.getElem_signExtend]

/-! ## Facts about maxima -/

theorem mag_nonneg (x : EReal) : 0 ≤ mag x := by
  rcases le_total 0 x with h | h
  · exact le_max_of_le_left h
  · exact le_max_of_le_right (by simpa using EReal.neg_le_neg_iff.2 h)

/-- The f32 pattern of minus infinity is the least extended real. -/
theorem ofBits_neg_inf : Ideal.ofBits .f32 0xFF800000#32 = ⊥ := by
  simp [Ideal.ofBits, Ideal.ieee]

/-- A fold of `max` from minus infinity is the supremum. -/
theorem fold_max {n : Nat} (f : Fin n → EReal) :
    Finset.fold max (Ideal.ofBits .f32 0xFF800000#32) f Finset.univ = Finset.univ.sup f := by
  rw [ofBits_neg_inf]; rfl

/-- The largest of the low magnitudes and the largest of the high ones together. -/
theorem amax_eq_max (x y : Fin 64 → EReal) :
    max (Finset.univ.sup fun l => mag (x l)) (Finset.univ.sup fun l => mag (y l)) = amax x y :=
  (Finset.sup_sup (s := Finset.univ)).symm

/-- A row of 128 lanes that is `f` on the 64 lanes of block `p` and zero elsewhere has the supremum of `f`, when `f` is
    nowhere negative. -/
theorem sup_half (f : Fin 128 → EReal) (g : Fin 64 → EReal) (p : Fin 2) (hg : ∀ l, 0 ≤ g l)
    (hin : ∀ l : Fin 64, f ⟨64 * p.val + l.val, by omega⟩ = g l)
    (hout : ∀ l : Fin 128, l.val / 64 ≠ p.val → f l = 0) : Finset.univ.sup f = Finset.univ.sup g := by
  apply le_antisymm
  · refine Finset.sup_le fun l _ => ?_
    by_cases h : l.val / 64 = p.val
    · have e : l = ⟨64 * p.val + l.val % 64, by omega⟩ := Fin.ext (by simp only; omega)
      rw [e, hin ⟨l.val % 64, by omega⟩]
      exact Finset.le_sup (f := g) (Finset.mem_univ _)
    · rw [hout l h]
      exact (hg 0).trans (Finset.le_sup (f := g) (Finset.mem_univ _))
  · refine Finset.sup_le fun l _ => ?_
    rw [← hin l]
    exact Finset.le_sup (f := f) (Finset.mem_univ _)

end Cert.Row

end
-- ==== Proof.TileValue.lean ====
/-
  ONE TILE, READ AT AN INDEX, over the extended reals: each row of a tile's result is the row mathematics of
  `Proof/Row.lean` at the tile's columns.
-/
module

public import proofs.«01_k».proof.Proof.Tile
public import proofs.«01_k».proof.Proof.Row

@[expose] public section

set_option maxRecDepth 16384

noncomputable section

namespace Cert.KernelIdeal.Tile

open Cert.KernelIdeal Cert.KernelIdeal.Gen Idealize.ShloMosaic Idealize.ShloMosaic.TcCoe
open Idealize.ShloMosaic.Pointwise Cert.Row

theorem first_apply (r : Fin 32) (l : Fin 128) : first (ix2 r l) = if l.val < 64 then 1#1 else 0#1 := by
  pointwise [first]
  revert l
  decide +kernel

theorem lo_apply (b : Vec Ideal S1x1x32x128 .i8) (r : Fin 32) (l : Fin 128) :
    lo b (ix2 r l) = FloatOps.sitofp .f32 (low (b (ix4 0 0 r l))) := by
  pointwise [lo, wide]
  rw [shli_eq _ _ 28 (by omega), shrsi_eq _ _ 28 (by omega), low_of_unsigned]

theorem hi_apply (b : Vec Ideal S1x1x32x128 .i8) (r : Fin 32) (l : Fin 128) :
    hi b (ix2 r l) = FloatOps.sitofp .f32 (high (b (ix4 0 0 r l))) := by
  pointwise [hi, wide]
  rw [shli_eq _ _ 24 (by omega), shrsi_eq _ _ 28 (by omega), high_of_unsigned]

/-- A choice by lane between two vectors takes the first on lanes below 64 and the second above. -/
theorem select_first_apply {α : Type} (u v : S32x128.Idx → α) (r : Fin 32) (l : Fin 128) :
    select first u v (ix2 r l) = if l.val < 64 then u (ix2 r l) else v (ix2 r l) := by
  show Scalar.select (first (ix2 r l)) _ _ = _
  rw [first_apply]
  split <;> rfl

theorem sc_apply (p q : Vec Ideal S1x1x32x1 .f32) (r : Fin 32) (l : Fin 128) :
    sc p q (ix2 r l) = if l.val < 64 then p (ix4 0 0 r 0) else q (ix4 0 0 r 0) := by
  rw [sc, select_first_apply]
  pointwise [spread]

/-- A tile's accumulation at a lane is the weighted sum over the sources there, whichever codes `f` takes. -/
theorem acc_apply (f : Vec Ideal S1x1x32x128 .i8 → FVec Ideal S32x128 .f32) (g : BitVec 8 → BitVec 32)
    (hf : ∀ b r l, f b (ix2 r l) = FloatOps.sitofp .f32 (g (b (ix4 0 0 r l))))
    (B : Fin 8 → Vec Ideal S1x1x32x128 .i8) (P Q : Fin 8 → Vec Ideal S1x1x32x1 .f32) (r : Fin 32) (l : Fin 128) :
    acc f B P Q (ix2 r l)
      = wsum g (fun s => B s (ix4 0 0 r l)) (fun s => if l.val < 64 then P s (ix4 0 0 r 0) else Q s (ix4 0 0 r 0)) := by
  pointwise [acc]
  simp only [hf, sc_apply, wsum, Fin.sum_univ_eight]

theorem ldB_apply (x0 : Vec Ideal S8x1x32x6144 .i8) (k : Fin 48) (s : Fin 8) (r : Fin 32) (l : Fin 128) :
    ldB x0 k s (ix4 0 0 r l) = x0 (ix4 s 0 r ⟨128 * k.val + l.val, by omega⟩) := by
  pointwise [ldB]

theorem ldS_apply (x1 : Vec Ideal S8x1x32x96 .f32) (j : Fin 96) (s : Fin 8) (r : Fin 32) :
    ldS x1 j s (ix4 0 0 r 0) = x1 (ix4 s 0 r j) := by
  pointwise [ldS]

/-- Row `r` of a block of packed bytes. -/
def rowB (x0 : Vec Ideal S8x1x32x6144 .i8) (r : Fin 32) (s : Fin 8) (c : Fin 6144) : BitVec 8 := x0 (ix4 s 0 r c)

/-- Row `r` of a block of scales. -/
def rowS (x1 : Vec Ideal S8x1x32x96 .f32) (r : Fin 32) (s : Fin 8) (j : Fin 96) : EReal := x1 (ix4 s 0 r j)

/-- A lane of the tile takes the scale of its own quantisation block. -/
theorem scale_of_lane (x1 : Vec Ideal S8x1x32x96 .f32) (k : Fin 48) (s : Fin 8) (r : Fin 32) (l : Fin 128) :
    (if l.val < 64 then ldS x1 (col k 0) s (ix4 0 0 r 0) else ldS x1 (col k 1) s (ix4 0 0 r 0))
      = rowS x1 r s ⟨(128 * k.val + l.val) / 64, by omega⟩ := by
  rw [ldS_apply, ldS_apply, rowS]
  split
  · exact congrArg (fun j => x1 (ix4 s 0 r j)) (Fin.ext (by simp [col]; omega))
  · exact congrArg (fun j => x1 (ix4 s 0 r j)) (Fin.ext (by simp [col]; omega))

theorem sumLo_apply (x0 : Vec Ideal S8x1x32x6144 .i8) (x1 : Vec Ideal S8x1x32x96 .f32) (k : Fin 48) (r : Fin 32) (l : Fin 128) :
    sumLo x0 x1 k (ix2 r l) = sumAt low (rowB x0 r) (rowS x1 r) ⟨128 * k.val + l.val, by omega⟩ := by
  rw [sumLo, acc_apply lo low lo_apply]
  simp only [ldB_apply, sumAt, rowB]
  exact congrArg (wsum _ _) (funext fun s => scale_of_lane x1 k s r l)

theorem sumHi_apply (x0 : Vec Ideal S8x1x32x6144 .i8) (x1 : Vec Ideal S8x1x32x96 .f32) (k : Fin 48) (r : Fin 32) (l : Fin 128) :
    sumHi x0 x1 k (ix2 r l) = sumAt high (rowB x0 r) (rowS x1 r) ⟨128 * k.val + l.val, by omega⟩ := by
  rw [sumHi, acc_apply hi high hi_apply]
  simp only [ldB_apply, sumAt, rowB]
  exact congrArg (wsum _ _) (funext fun s => scale_of_lane x1 k s r l)

theorem rowMax_apply (v : FVec Ideal S32x128 .f32) (r : Fin 32) :
    rowMax v (ix2 r 0) = Finset.univ.sup fun l : Fin 128 => (v (ix2 r l) : EReal) := by
  rw [← fold_max]
  pointwise [rowMax]

theorem scale_apply (a : FVec Ideal S32x1 .f32) (r : Fin 32) : scale a (ix2 r 0) = Row.scale (a (ix2 r 0)) := by
  pointwise [scale, Row.scale]

theorem mag_apply (x y : FVec Ideal S32x128 .f32) (r : Fin 32) (l : Fin 128) :
    mag x y (ix2 r l) = max (Row.mag (x (ix2 r l))) (Row.mag (y (ix2 r l))) := rfl

theorem zero_apply (r : Fin 32) (l : Fin 128) : (zero : FVec Ideal S32x128 .f32) (ix2 r l) = (0 : EReal) := by
  pointwise [zero]

/-- The scale of the tile's first block is a row's new scale at block `2 k`. -/
theorem scale0_apply (x0 : Vec Ideal S8x1x32x6144 .i8) (x1 : Vec Ideal S8x1x32x96 .f32) (k : Fin 48) (r : Fin 32) :
    scale0 (sumLo x0 x1 k) (sumHi x0 x1 k) (ix2 r 0) = scaleAt (rowB x0 r) (rowS x1 r) (col k 0) := by
  rw [scale0, scale_apply, rowMax_apply, scaleAt, amax]
  refine congrArg Row.scale (sup_half _ _ 0 (fun l => le_max_of_le_left (mag_nonneg _)) (fun l => ?_) (fun l hl => ?_))
  · rw [select_first_apply, if_pos (by simp), mag_apply, sumLo_apply, sumHi_apply]
    congr 4 <;> simp [col] <;> omega
  · rw [select_first_apply, if_neg (by simp at hl; omega), zero_apply]

/-- The scale of the tile's second block is a row's new scale at block `2 k + 1`. -/
theorem scale1_apply (x0 : Vec Ideal S8x1x32x6144 .i8) (x1 : Vec Ideal S8x1x32x96 .f32) (k : Fin 48) (r : Fin 32) :
    scale1 (sumLo x0 x1 k) (sumHi x0 x1 k) (ix2 r 0) = scaleAt (rowB x0 r) (rowS x1 r) (col k 1) := by
  rw [scale1, scale_apply, rowMax_apply, scaleAt, amax]
  refine congrArg Row.scale (sup_half _ _ 1 (fun l => le_max_of_le_left (mag_nonneg _)) (fun l => ?_) (fun l hl => ?_))
  · rw [select_first_apply, if_neg (by simp), mag_apply, sumLo_apply, sumHi_apply]
    congr 4 <;> simp [col] <;> omega
  · rw [select_first_apply, if_pos (by simp at hl; omega), zero_apply]

theorem code_apply (x s : FVec Ideal S32x128 .f32) (r : Fin 32) (l : Fin 128) :
    code x s (ix2 r l) = Row.code (x (ix2 r l)) (s (ix2 r l)) := by
  pointwise [code, Row.code]

theorem pack_apply (c h : IVec S32x128 32) (r : Fin 32) (l : Fin 128) :
    pack c h (ix3 0 r l) = Row.pack (c (ix2 r l)) (h (ix2 r l)) := by
  pointwise [pack]
  rw [shli_eq _ _ 4 (by omega)]
  rfl

/-- The scales laid along the lanes, read at a lane: the new scale of the lane's block. -/
theorem lane_scale (x0 : Vec Ideal S8x1x32x6144 .i8) (x1 : Vec Ideal S8x1x32x96 .f32) (k : Fin 48) (r : Fin 32) (l : Fin 128) :
    select first (spread (scale0 (sumLo x0 x1 k) (sumHi x0 x1 k))) (spread (scale1 (sumLo x0 x1 k) (sumHi x0 x1 k))) (ix2 r l)
      = scaleAt (rowB x0 r) (rowS x1 r) ⟨(128 * k.val + l.val) / 64, by omega⟩ := by
  rw [select_first_apply]
  pointwise [spread]
  rw [scale0_apply, scale1_apply]
  split <;> exact congrArg _ (Fin.ext (by simp [col]; omega))

/-- A tile's packed byte at a lane is the row's new byte at the lane's column. -/
theorem bytes_apply (x0 : Vec Ideal S8x1x32x6144 .i8) (x1 : Vec Ideal S8x1x32x96 .f32) (k : Fin 48) (r : Fin 32) (l : Fin 128) :
    bytes (sumLo x0 x1 k) (sumHi x0 x1 k) (ix3 0 r l) = byteAt (rowB x0 r) (rowS x1 r) ⟨128 * k.val + l.val, by omega⟩ := by
  rw [bytes, pack_apply, code_apply, code_apply, lane_scale, sumLo_apply, sumHi_apply, byteAt]

end Cert.KernelIdeal.Tile

end
-- ==== Proof.BlockValue.lean ====
/-
  THE TWO BLOCKS THE BODY LEAVES, READ AT AN INDEX, over the extended reals: each row is the row mathematics of
  `Proof/Row.lean` on that row of the body's two input blocks.
-/
module

public import proofs.«01_k».proof.Proof.Pieces
public import proofs.«01_k».proof.Proof.TileValue
public import Idealize.ShloMosaic.Lib.Pipeline.Value

@[expose] public section

set_option maxRecDepth 16384

noncomputable section

namespace Cert.KernelIdeal.Tile

open Cert.KernelIdeal Cert.KernelIdeal.Gen Idealize.ShloMosaic Idealize.ShloMosaic.TcCoe
open Idealize.ShloMosaic.Pointwise Cert.Row

/-- Index `(0, r, l)` of tile `k`'s codes goes to row `r`, column `128 k + l` of the block. -/
theorem rectB_emb (k : Fin 48) (r : Fin 32) (l : Fin 128) :
    (rectB k).emb (ix3 0 r l : S1x32x128.Idx) = (ix3 0 r ⟨128 * k.val + l.val, by omega⟩ : S1x32x6144.Idx) := by
  funext a
  refine Fin.ext ?_
  fin_cases a
  · rfl
  · show 0 + 1 * r.val = r.val
    omega
  · show 128 * k.val + 1 * l.val = 128 * k.val + l.val
    omega

/-- Row `r` of block column `j`'s scales goes to row `r`, column `j` of the block. -/
theorem rectS_emb (j : Fin 96) (r : Fin 32) :
    (rectS j).emb (ix3 0 r 0 : S1x32x1.Idx) = (ix3 0 r j : S1x32x96.Idx) := by
  funext a
  refine Fin.ext ?_
  fin_cases a
  · rfl
  · show 0 + 1 * r.val = r.val
    omega
  · rfl

/-- Column `c` lies in the tile of its hundred-and-twenty-eights. -/
theorem mem_rectB (k : Fin 48) (r : Fin 32) (c : Fin 6144) (h : c.val / 128 = k.val) :
    (ix3 0 r c : S1x32x6144.Idx) ∈ (rectB k).set := by
  rw [rectB, Rect.mem_set_unit]
  intro a
  fin_cases a
  · show 0 ≤ 0 ∧ 0 < 0 + 1
    omega
  · show 0 ≤ r.val ∧ r.val < 0 + 32
    omega
  · show 128 * k.val ≤ c.val ∧ c.val < 128 * k.val + 128
    omega

theorem mem_rectS (j : Fin 96) (r : Fin 32) : (ix3 0 r j : S1x32x96.Idx) ∈ (rectS j).set := by
  rw [rectS, Rect.mem_set_unit]
  intro a
  fin_cases a
  · show 0 ≤ 0 ∧ 0 < 0 + 1
    omega
  · show 0 ≤ r.val ∧ r.val < 0 + 32
    omega
  · show j.val ≤ j.val ∧ j.val < j.val + 1
    omega

/-- What the block of packed codes is to hold. -/
def blockB (x0 : Vec Ideal S8x1x32x6144 .i8) (x1 : Vec Ideal S8x1x32x96 .f32) (y : S1x32x6144.Idx) : Elt Ideal .i8 :=
  byteAt (rowB x0 (y 1)) (rowS x1 (y 1)) (y 2)

/-- What the block of scales is to hold. -/
def blockS (x0 : Vec Ideal S8x1x32x6144 .i8) (x1 : Vec Ideal S8x1x32x96 .f32) (y : S1x32x96.Idx) : Elt Ideal .f32 :=
  scaleAt (rowB x0 (y 1)) (rowS x1 (y 1)) (y 2)

/-- A tile's codes are that tile of `blockB`. -/
theorem pieceB (x0 : Vec Ideal S8x1x32x6144 .i8) (x1 : Vec Ideal S8x1x32x96 .f32) (k : Fin 48) (x : S1x32x128.Idx) :
    bytes (sumLo x0 x1 k) (sumHi x0 x1 k) x = blockB x0 x1 ((rectB k).emb x) := by
  obtain ⟨z, r, l, rfl⟩ : ∃ (z : Fin 1) (r : Fin 32) (l : Fin 128), x = ix3 z r l := ⟨x 0, x 1, x 2, eq_ix3 x⟩
  obtain rfl : z = 0 := Subsingleton.elim _ _
  rw [rectB_emb, bytes_apply]
  rfl

/-- A column of scales equal to the row mathematics at block column `j` is that column of `blockS`. -/
theorem pieceS (x0 : Vec Ideal S8x1x32x6144 .i8) (x1 : Vec Ideal S8x1x32x96 .f32) (a : FVec Ideal S32x1 .f32) (j : Fin 96)
    (ha : ∀ r, a (ix2 r 0) = scaleAt (rowB x0 r) (rowS x1 r) j) (x : S1x32x1.Idx) :
    shapeCast S1x32x1 a shapeCasts_S32x1_S1x32x1 x = blockS x0 x1 ((rectS j).emb x) := by
  obtain ⟨z, r, l, rfl⟩ : ∃ (z : Fin 1) (r : Fin 32) (l : Fin 1), x = ix3 z r l := ⟨x 0, x 1, x 2, eq_ix3 x⟩
  obtain rfl : z = 0 := Subsingleton.elim _ _
  obtain rfl : l = 0 := Subsingleton.elim _ _
  rw [rectS_emb]
  pointwise
  exact ha r

/-- The packed code the body leaves at row `r`, column `c`. -/
theorem out0_2_apply (x0 : Vec Ideal S8x1x32x6144 .i8) (x1 : Vec Ideal S8x1x32x96 .f32) (r : Fin 32) (c : Fin 6144) :
    out0_2 x0 x1 (ix3 0 r c) = byteAt (rowB x0 r) (rowS x1 r) c := by
  rw [out0_2_eq]
  refine View.canon_apply_of_pieces (Val := Elt Ideal) (e := .i8) (blockB x0 x1) _ ?_ (ix3 0 r c) ?_
  · intro p hp
    obtain ⟨k, -, rfl⟩ := List.mem_map.1 hp
    exact pieceB x0 x1 k
  · have hk : c.val / 128 < 48 := by omega
    refine ⟨_, List.mem_map_of_mem (List.mem_reverse.2 (List.mem_finRange ⟨c.val / 128, hk⟩)), ?_⟩
    exact mem_rectB ⟨c.val / 128, hk⟩ r c rfl

/-- The scale the body leaves at row `r`, block column `j`. -/
theorem out0_3_apply (x0 : Vec Ideal S8x1x32x6144 .i8) (x1 : Vec Ideal S8x1x32x96 .f32) (r : Fin 32) (j : Fin 96) :
    out0_3 x0 x1 (ix3 0 r j) = scaleAt (rowB x0 r) (rowS x1 r) j := by
  rw [out0_3_eq]
  refine View.canon_apply_of_pieces (Val := Elt Ideal) (e := .f32) (blockS x0 x1) _ ?_ (ix3 0 r j) ?_
  · intro p hp
    obtain ⟨k, -, hp⟩ := List.mem_flatMap.1 hp
    rcases List.mem_cons.1 hp with rfl | hp
    · exact pieceS x0 x1 _ _ (scale1_apply x0 x1 k)
    · obtain rfl := List.mem_singleton.1 hp
      exact pieceS x0 x1 _ _ (scale0_apply x0 x1 k)
  · have hk : j.val / 2 < 48 := by omega
    have mem := List.mem_reverse.2 (List.mem_finRange (⟨j.val / 2, hk⟩ : Fin 48))
    rcases Nat.mod_two_eq_zero_or_one j.val with h | h
    · have e : col ⟨j.val / 2, hk⟩ 0 = j := Fin.ext (by simp [col]; omega)
      refine ⟨_, List.mem_flatMap.2 ⟨_, mem, List.mem_cons_of_mem _ List.mem_cons_self⟩, ?_⟩
      show _ ∈ (rectS (col ⟨j.val / 2, hk⟩ 0)).set
      rw [e]
      exact mem_rectS j r
    · have e : col ⟨j.val / 2, hk⟩ 1 = j := Fin.ext (by simp [col]; omega)
      refine ⟨_, List.mem_flatMap.2 ⟨_, mem, List.mem_cons_self⟩, ?_⟩
      show _ ∈ (rectS (col ⟨j.val / 2, hk⟩ 1)).set
      rw [e]
      exact mem_rectS j r

end Cert.KernelIdeal.Tile

end
-- ==== Proof.ArrayValue.lean ====
/-
  THE RESULT ARRAYS, over the extended reals. Grid point `t` handles rows `32 t` to `32 t + 31`; the eight points' blocks
  fill both result arrays, so each row of the arrays is the row mathematics of `Proof/Row.lean` on that row of the arguments.
-/
module

public import proofs.«01_k».proof.Proof.Gen.KernelIdeal.Value
public import proofs.«01_k».proof.Proof.BlockValue
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Pointwise Cert.Row
open Idealize.ShloMosaic.Pipeline (Dat)

/-- What the array of packed codes is to hold, from the two argument arrays. -/
def arrayB (A : Vec Ideal S8x1x256x6144 .i8) (S : Vec Ideal S8x1x256x96 .f32) (i : S1x256x6144.Idx) : Elt Ideal .i8 :=
  byteAt (fun s c => A (ix4 s 0 (i 1) c)) (fun s j => S (ix4 s 0 (i 1) j)) (i 2)

/-- What the array of scales is to hold, from the two argument arrays. -/
def arrayS (A : Vec Ideal S8x1x256x6144 .i8) (S : Vec Ideal S8x1x256x96 .f32) (i : S1x256x96.Idx) : Elt Ideal .f32 :=
  scaleAt (fun s c => A (ix4 s 0 (i 1) c)) (fun s j => S (ix4 s 0 (i 1) j)) (i 2)

variable (m : (ℓ : Loc nD τ sig) → Buf (Elt Ideal) ℓ) (ρ : Dev nD → PrngReg)

/-- The block indices of the four windows at point `t`: all zero but the row block's, which is `t`. -/
theorem index_eq : ∀ t : Fin cfg0.N,
    ((cfg0.win 0).index t (0 : Fin 4) = 0 ∧ (cfg0.win 0).index t (1 : Fin 4) = 0 ∧ (cfg0.win 0).index t (2 : Fin 4) = t.val
      ∧ (cfg0.win 0).index t (3 : Fin 4) = 0)
    ∧ ((cfg0.win 1).index t (0 : Fin 4) = 0 ∧ (cfg0.win 1).index t (1 : Fin 4) = 0 ∧ (cfg0.win 1).index t (2 : Fin 4) = t.val
      ∧ (cfg0.win 1).index t (3 : Fin 4) = 0)
    ∧ ((cfg0.win 2).index t (0 : Fin 3) = 0 ∧ (cfg0.win 2).index t (1 : Fin 3) = t.val ∧ (cfg0.win 2).index t (2 : Fin 3) = 0)
    ∧ ((cfg0.win 3).index t (0 : Fin 3) = 0 ∧ (cfg0.win 3).index t (1 : Fin 3) = t.val ∧ (cfg0.win 3).index t (2 : Fin 3) = 0) := by
  decide +kernel

theorem t_lt (t : Fin cfg0.N) : t.val < 8 := t.isLt

/-- Row `r` of the block of packed bytes at point `t` is row `32 t + r` of the first argument. -/
theorem rowB_iblk (c : Dev nD) (t : Fin cfg0.N) (r : Fin 32) :
    rowB (iblk m c 0 t) r
      = fun s k => m ((c : Thread nD τ).loc main_arg0) (ix4 s 0 (⟨32 * t.val + r.val, by have := t_lt t; omega⟩ : Fin 256) k) := by
  funext s k
  have e := (index_eq t).1
  show (iblk m c 0 t) (ix4 s 0 r k) = _
  blk_ext [iblk, V, e.1, e.2.1, e.2.2.1, e.2.2.2]

/-- Row `r` of the block of scales at point `t` is row `32 t + r` of the second argument. -/
theorem rowS_iblk (c : Dev nD) (t : Fin cfg0.N) (r : Fin 32) :
    rowS (iblk m c 1 t) r
      = fun s k => m ((c : Thread nD τ).loc main_arg1) (ix4 s 0 (⟨32 * t.val + r.val, by have := t_lt t; omega⟩ : Fin 256) k) := by
  funext s k
  have e := (index_eq t).2.1
  show (iblk m c 1 t) (ix4 s 0 r k) = _
  blk_ext [iblk, V, e.1, e.2.1, e.2.2.1, e.2.2.2]

/-- Index `(0, r, k)` of point `t`'s block of codes is row `32 t + r`, column `k` of the array. -/
theorem emb2 (t : Fin cfg0.N) (r : Fin 32) (k : Fin 6144) :
    (win0_2.blk t).view.emb (ix3 0 r k : S1x32x6144.Idx)
      = (ix3 0 (⟨32 * t.val + r.val, by have := t_lt t; omega⟩ : Fin 256) k : S1x256x6144.Idx) := by
  have e := (index_eq t).2.2.1
  blk_ext [e.1, e.2.1, e.2.2]

/-- Index `(0, r, k)` of point `t`'s block of scales is row `32 t + r`, block column `k` of the array. -/
theorem emb3 (t : Fin cfg0.N) (r : Fin 32) (k : Fin 96) :
    (win0_3.blk t).view.emb (ix3 0 r k : S1x32x96.Idx)
      = (ix3 0 (⟨32 * t.val + r.val, by have := t_lt t; omega⟩ : Fin 256) k : S1x256x96.Idx) := by
  have e := (index_eq t).2.2.2
  blk_ext [e.1, e.2.1, e.2.2]

/-- The array of packed codes after the run. -/
theorem final2 (c : Dev nD) : (dats m 0 c).arrAt 2 cfg0.N
    = arrayB (m ((c : Thread nD τ).loc main_arg0)) (m ((c : Thread nD τ).loc main_arg1)) := by
  refine (dats m 0 c).arrAt_eq_of_covers 2 _ (by decide +kernel) fun t hf y => ?_
  blk_simp
  rw [after0_2]
  obtain ⟨z, r, k, rfl⟩ : ∃ (z : Fin 1) (r : Fin 32) (k : Fin 6144), y = (ix3 z r k : S1x32x6144.Idx) :=
    ⟨y (0 : Fin 3), y (1 : Fin 3), y (2 : Fin 3), eq_ix3 y⟩
  obtain rfl : z = 0 := Subsingleton.elim _ _
  refine (out0_2_apply _ _ r k).trans ?_
  rw [rowB_iblk, rowS_iblk]
  exact (congrArg (arrayB _ _) (emb2 t r k)).symm

/-- The array of scales after the run. -/
theorem final3 (c : Dev nD) : (dats m 0 c).arrAt 3 cfg0.N
    = arrayS (m ((c : Thread nD τ).loc main_arg0)) (m ((c : Thread nD τ).loc main_arg1)) := by
  refine (dats m 0 c).arrAt_eq_of_covers 3 _ (by decide +kernel) fun t hf y => ?_
  blk_simp
  rw [after0_3]
  obtain ⟨z, r, k, rfl⟩ : ∃ (z : Fin 1) (r : Fin 32) (k : Fin 96), y = (ix3 z r k : S1x32x96.Idx) :=
    ⟨y (0 : Fin 3), y (1 : Fin 3), y (2 : Fin 3), eq_ix3 y⟩
  obtain rfl : z = 0 := Subsingleton.elim _ _
  refine (out0_3_apply _ _ r k).trans ?_
  rw [rowB_iblk, rowS_iblk]
  exact (congrArg (arrayS _ _) (emb3 t r k)).symm

/-- The kernel's run: the two result arrays are `arrayB` and `arrayS` of the arguments, and the arguments are unchanged. -/
theorem run : θ_run defs (onTc (τ := τ) (main (F := Ideal))) ⟨m, fun _ => 0, ρ⟩ fun r => ∀ c : Dev nD,
      r.2.mem ((c : Thread nD τ).loc main_v0_0) = arrayB (m ((c : Thread nD τ).loc main_arg0)) (m ((c : Thread nD τ).loc main_arg1))
      ∧ r.2.mem ((c : Thread nD τ).loc main_v0_1) = arrayS (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩)
    (Value.run_blocks m ρ)

end Cert.KernelIdeal.Tile

end
-- ==== Proof.Ref.lean ====
/-
  THE REFERENCE AS FUNCTIONS OF ITS ARGUMENTS: its result terms, cut at named intermediate values, and these read at an
  index over the extended reals. Each row of the two results is the row mathematics of `Proof/Row.lean`.
-/
module

public import proofs.«01_k».proof.Proof.Gen.ReferenceIdeal.Run
public import proofs.«01_k».proof.Proof.Row
public import Idealize.ShloMosaic.Lib.Pointwise

@[expose] public section

set_option maxRecDepth 16384

noncomputable section

namespace Cert.ReferenceIdeal.Terms

open Cert.ReferenceIdeal Cert.ReferenceIdeal.Gen Idealize.ShloMosaic Idealize.ShloMosaic.TcCoe
open Idealize.ShloMosaic.Pointwise Idealize.SL.Sem Cert.Row

/-- The packed bytes, widened with sign, cut into 96 blocks of 64. -/
def wide (A : IVec S8x1x256x6144 8) : IVec S8x1x256x96x64 32 :=
  shapeCast S8x1x256x96x64 (extsi 32 A natLt_8_32) shapeCasts_S8x1x256x6144_S8x1x256x96x64

/-- The integer constant `w` at every packed byte. -/
def splat (w : BitVec 32) : IVec S8x1x256x96x64 32 :=
  broadcastInDim S8x1x256x96x64 ![] bcast_S_S8x1x256x96x64 (constantI S_ 32 w)

/-- Codes `C` times their blocks' scales, added over the eight sources. -/
def total (C : IVec S8x1x256x96x64 32) (S : FVec Ideal S8x1x256x96 .f32) : FVec Ideal S1x256x96x64 .f32 :=
  Host.reduceAdd (mulf (sitofp .f32 C) (broadcastInDim S8x1x256x96x64 ![0, 1, 2, 3, 4] bcast_S8x1x256x96x1_S8x1x256x96x64_0_1_2_3_4
    (broadcastInDim S8x1x256x96x1 ![0, 1, 2, 3] bcast_S8x1x256x96_S8x1x256x96x1_0_1_2_3 S)))
    (constant S_ .f32 0x00000000#32) reducesTo_S8x1x256x96x64_S1x256x96x64_d0 h_S_

/-- The sum of the low codes. -/
def lo (A : IVec S8x1x256x6144 8) (S : FVec Ideal S8x1x256x96 .f32) : FVec Ideal S1x256x96x64 .f32 :=
  total (Host.shrsi (extsi 32 (trunci 8 (Host.shli (wide A) (splat 4#32)) natLt_8_32) natLt_8_32) (splat 4#32)) S

/-- The sum of the high codes. -/
def hi (A : IVec S8x1x256x6144 8) (S : FVec Ideal S8x1x256x96 .f32) : FVec Ideal S1x256x96x64 .f32 :=
  total (Host.shrsi (wide A) (splat 4#32)) S

/-- The largest magnitude in each block. -/
def blockMax (x : FVec Ideal S1x256x96x64 .f32) : FVec Ideal S1x256x96 .f32 :=
  Host.reduce FloatOps.maximumf (Host.absf x) (constant S_ .f32 0xFF800000#32) reducesTo_S1x256x96x64_S1x256x96_d3 h_S_

/-- Each block's new scale, from its largest magnitude. -/
def scaleOf (a : FVec Ideal S1x256x96 .f32) : FVec Ideal S1x256x96 .f32 :=
  select (cmpf .oeq a (broadcastInDim S1x256x96 ![] bcast_S_S1x256x96 (constant S_ .f32 0x00000000#32)))
    (broadcastInDim S1x256x96 ![] bcast_S_S1x256x96 (constant S_ .f32 0x3F800000#32))
    (Host.divf a (broadcastInDim S1x256x96 ![] bcast_S_S1x256x96 (constant S_ .f32 0x40E00000#32)))

/-- The reference's second result. -/
def scales (A : IVec S8x1x256x6144 8) (S : FVec Ideal S8x1x256x96 .f32) : FVec Ideal S1x256x96 .f32 :=
  scaleOf (maximumf (blockMax (lo A S)) (blockMax (hi A S)))

/-- The codes of `x` at the block scales `s`. -/
def code (x : FVec Ideal S1x256x96x64 .f32) (s : FVec Ideal S1x256x96 .f32) : IVec S1x256x96x64 32 :=
  extsi 32 (trunci 8 (fptosi 32 (minimumf (broadcastInDim S1x256x96x64 ![] bcast_S_S1x256x96x64 (constant S_ .f32 0x40E00000#32))
    (maximumf (broadcastInDim S1x256x96x64 ![] bcast_S_S1x256x96x64 (constant S_ .f32 0xC0E00000#32))
      (Host.roundeven (Host.divf x (broadcastInDim S1x256x96x64 ![0, 1, 2, 3] bcast_S1x256x96x1_S1x256x96x64_0_1_2_3
        (broadcastInDim S1x256x96x1 ![0, 1, 2] bcast_S1x256x96_S1x256x96x1_0_1_2 s))))))) natLt_8_32) natLt_8_32

/-- The reference's first result. -/
def packed (A : IVec S8x1x256x6144 8) (S : FVec Ideal S8x1x256x96 .f32) : IVec S1x256x6144 8 :=
  shapeCast S1x256x6144 (trunci 8 (ori (andi (code (lo A S) (scales A S))
      (broadcastInDim S1x256x96x64 ![] bcast_S_S1x256x96x64 (constantI S_ 32 15#32)))
    (Host.shli (code (hi A S) (scales A S)) (broadcastInDim S1x256x96x64 ![] bcast_S_S1x256x96x64 (constantI S_ 32 4#32))))
    natLt_8_32) shapeCasts_S1x256x96x64_S1x256x6144

/-- The reference run: the two results are `packed` and `scales` of the arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
        = packed (m ((c.tc : Thread nD τ).loc main_arg0)) (m ((c.tc : Thread nD τ).loc main_arg1))
      ∧ r.2.mem ((c.tc : Thread nD τ).loc main_v29)
        = scales (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

/-! ## The intermediate values at an index -/

/-- Row `r` of the packed bytes. -/
def rowB (A : IVec S8x1x256x6144 8) (r : Fin 256) (s : Fin 8) (c : Fin 6144) : BitVec 8 := A (ix4 s 0 r c)

/-- Row `r` of the scales. -/
def rowS (S : FVec Ideal S8x1x256x96 .f32) (r : Fin 256) (s : Fin 8) (j : Fin 96) : EReal := S (ix4 s 0 r j)

/-- A sum at block `b`, lane `l`: the row's sum at byte column `64 b + l`, for whichever codes `C` holds. -/
theorem total_apply (A : IVec S8x1x256x6144 8) (S : FVec Ideal S8x1x256x96 .f32) (C : IVec S8x1x256x96x64 32)
    (f : BitVec 8 → BitVec 32) (r : Fin 256) (b : Fin 96) (l : Fin 64)
    (hC : ∀ s, C (ix5 s 0 r b l) = f (A (ix4 s 0 r ⟨b.val * 64 + l.val, by omega⟩))) :
    total C S (ix4 0 r b l) = sumAt f (rowB A r) (rowS S r) ⟨b.val * 64 + l.val, by omega⟩ := by
  pointwise [total]
  have e : (⟨(b.val * 64 + l.val) / 64, by omega⟩ : Fin 96) = b := Fin.ext (by simp only; omega)
  simp only [hC, sumAt, e]
  rfl

theorem lo_apply (A : IVec S8x1x256x6144 8) (S : FVec Ideal S8x1x256x96 .f32) (r : Fin 256) (b : Fin 96) (l : Fin 64) :
    lo A S (ix4 0 r b l) = sumAt low (rowB A r) (rowS S r) ⟨b.val * 64 + l.val, by omega⟩ := by
  refine total_apply A S _ low r b l fun s => ?_
  pointwise [wide, splat]
  rw [shli_eq _ _ 4 (by omega), shrsi_eq _ _ 4 (by omega)]
  exact low_of_byte _

theorem hi_apply (A : IVec S8x1x256x6144 8) (S : FVec Ideal S8x1x256x96 .f32) (r : Fin 256) (b : Fin 96) (l : Fin 64) :
    hi A S (ix4 0 r b l) = sumAt high (rowB A r) (rowS S r) ⟨b.val * 64 + l.val, by omega⟩ := by
  refine total_apply A S _ high r b l fun s => ?_
  pointwise [wide, splat]
  rw [shrsi_eq _ _ 4 (by omega)]
  rfl

theorem blockMax_apply (x : FVec Ideal S1x256x96x64 .f32) (r : Fin 256) (b : Fin 96) :
    blockMax x (ix3 0 r b) = Finset.univ.sup fun l : Fin 64 => mag (x (ix4 0 r b l)) := by
  rw [← fold_max]
  pointwise [blockMax]
  rfl

theorem scaleOf_apply (a : FVec Ideal S1x256x96 .f32) (r : Fin 256) (b : Fin 96) :
    scaleOf a (ix3 0 r b) = scale (a (ix3 0 r b)) := by
  pointwise [scaleOf, scale]

theorem code_apply (x : FVec Ideal S1x256x96x64 .f32) (s : FVec Ideal S1x256x96 .f32) (r : Fin 256) (b : Fin 96) (l : Fin 64) :
    code x s (ix4 0 r b l) = ((Row.code (x (ix4 0 r b l)) (s (ix3 0 r b))).setWidth 8).signExtend 32 := by
  pointwise [code, Row.code]

/-! ## The two results at an index -/

/-- The reference's scale of row `r`, block `b`. -/
theorem scales_apply (A : IVec S8x1x256x6144 8) (S : FVec Ideal S8x1x256x96 .f32) (r : Fin 256) (b : Fin 96) :
    scales A S (ix3 0 r b) = scaleAt (rowB A r) (rowS S r) b := by
  rw [scales, scaleOf_apply, scaleAt, ← amax_eq_max]
  simp only [← lo_apply, ← hi_apply, ← blockMax_apply]
  rfl

/-- The reference's packed byte of row `r`, column `c`. -/
theorem packed_apply (A : IVec S8x1x256x6144 8) (S : FVec Ideal S8x1x256x96 .f32) (r : Fin 256) (c : Fin 6144) :
    packed A S (ix3 0 r c) = byteAt (rowB A r) (rowS S r) c := by
  have e : (⟨c.val / 64 * 64 + c.val % 64, by omega⟩ : Fin 6144) = c := Fin.ext (by simp only; omega)
  pointwise [packed]
  rw [shli_eq _ _ 4 (by omega), code_apply, code_apply, lo_apply, hi_apply, scales_apply]
  simp only [e]
  exact pack_of_bytes _ _

end Cert.ReferenceIdeal.Terms

end
-- ==== Proof.Equation.lean ====
/-
  THE EQUATION: over the extended reals the kernel's two result arrays are the reference's, for any arguments.
-/
module

public import proofs.«01_k».proof.Proof.ArrayValue
public import proofs.«01_k».proof.Proof.Ref

@[expose] public section

set_option maxRecDepth 16384

noncomputable section

namespace Cert.Equation

open Idealize.ShloMosaic Idealize.ShloMosaic.Pointwise

/-- The packed codes the kernel leaves are the reference's. -/
theorem codes_eq (A : Vec Ideal ⟨4, ![8, 1, 256, 6144]⟩ .i8) (S : Vec Ideal ⟨4, ![8, 1, 256, 96]⟩ .f32) :
    KernelIdeal.Tile.arrayB A S = ReferenceIdeal.Terms.packed A S := by
  funext i
  obtain ⟨z, r, c, rfl⟩ : ∃ (z : Fin 1) (r : Fin 256) (c : Fin 6144), i = ix3 z r c := ⟨i 0, i 1, i 2, eq_ix3 i⟩
  obtain rfl : z = 0 := Subsingleton.elim _ _
  exact (ReferenceIdeal.Terms.packed_apply A S r c).symm

/-- The scales the kernel leaves are the reference's. -/
theorem scales_eq (A : Vec Ideal ⟨4, ![8, 1, 256, 6144]⟩ .i8) (S : Vec Ideal ⟨4, ![8, 1, 256, 96]⟩ .f32) :
    KernelIdeal.Tile.arrayS A S = ReferenceIdeal.Terms.scales A S := by
  funext i
  obtain ⟨z, r, c, rfl⟩ : ∃ (z : Fin 1) (r : Fin 256) (c : Fin 96), i = ix3 z r c := ⟨i 0, i 1, i 2, eq_ix3 i⟩
  obtain rfl : z = 0 := Subsingleton.elim _ _
  exact (ReferenceIdeal.Terms.scales_apply A S r c).symm

end Cert.Equation

end
-- ==== Proof.lean ====
/-
  THE CERTIFICATE. The kernel adds eight sources' four-bit block-quantised rows and quantises the sums again. Claimed and
  proved here:

  * the kernel, its reading over the extended reals and the reference each run to the end without a fault, leave their
    arguments unchanged and every semaphore counter at zero;
  * the reading over the extended reals is the kernel's own text;
  * over the extended reals, from equal arguments, the kernel's two results (the packed codes and the scales) are the
    reference's, element by element, whatever the arguments are.

  The mathematics is in `Proof/Row.lean` (one row), `Proof/Tile.lean`, `Proof/Pieces.lean`, `Proof/TileValue.lean` and
  `Proof/BlockValue.lean` (what the body computes), `Proof/ArrayValue.lean` (what the arrays hold), `Proof/Ref.lean` (the
  reference) and `Proof/Equation.lean`.
-/
module

public import proofs.«01_k».proof.Defs
public import proofs.«01_k».proof.Proof.Gen.Kernel.Frame
public import proofs.«01_k».proof.Proof.Equation
public import Idealize.ShloMosaic.Lib.Quiescent

@[expose] public section

noncomputable section

namespace Cert.Proof

open Idealize.ShloMosaic Idealize.SL.Sem

/-- The kernel runs, its arguments end unchanged and every counter ends at zero. -/
theorem frame_kernel : Cert.quiescent_Kernel (hKernel := Cert.Kernel.Gen.facts) :=
  fun m ρ _ => Cert.Kernel.Gen.frame m ρ

/-- So does its reading over the extended reals. -/
theorem frame_kernelIdeal : Cert.quiescent_KernelIdeal (hKernelIdeal := Cert.KernelIdeal.Gen.facts) :=
  fun m ρ _ => Cert.KernelIdeal.Gen.frame m ρ

/-- So does the reference, which has no semaphore at all. -/
theorem frame_reference : Cert.quiescent_ReferenceIdeal (hReferenceIdeal := Cert.ReferenceIdeal.Gen.facts) :=
  fun m ρ _ => (θ_run _ _ _).mono (fun r h => ⟨fun c => (h c).2.2, sem_eq_zero_of_no_sems rfl r.2⟩)
    (Cert.ReferenceIdeal.Terms.run m ρ)

/-- Over the extended reals the kernel's two results are the reference's. -/
theorem algebraic : Cert.algebraic_KernelIdeal_ReferenceIdeal (hKernelIdeal := Cert.KernelIdeal.Gen.facts)
    (hReferenceIdeal := Cert.ReferenceIdeal.Gen.facts) :=
  fun m ρ m' ρ' _ hag => ⟨fun _ => _, fun _ => _, Cert.KernelIdeal.Tile.run m ρ,
    (θ_run _ _ _).mono (fun _ h c =>
      ⟨(h c).1.trans (by rw [(hag c).1, (hag c).2]; exact (Cert.Equation.codes_eq _ _).symm),
        (h c).2.1.trans (by rw [(hag c).1, (hag c).2]; exact (Cert.Equation.scales_eq _ _).symm),
        (h c).2.2⟩) (Cert.ReferenceIdeal.Terms.run m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
